-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x512x3 : Shape := ⟨4, ![16, 512, 512, 3]⟩
abbrev S16x512x512 : Shape := ⟨3, ![16, 512, 512]⟩
abbrev S16x3x512x512 : Shape := ⟨4, ![16, 3, 512, 512]⟩
abbrev S16x7x512x512 : Shape := ⟨4, ![16, 7, 512, 512]⟩
abbrev S2x512x512 : Shape := ⟨3, ![2, 512, 512]⟩
abbrev S2x3x512x512 : Shape := ⟨4, ![2, 3, 512, 512]⟩
abbrev S2x7x512x512 : Shape := ⟨4, ![2, 7, 512, 512]⟩
abbrev S1x512x512 : Shape := ⟨3, ![1, 512, 512]⟩
abbrev S512x512 : Shape := ⟨2, ![512, 512]⟩
abbrev S1x1x512x512 : Shape := ⟨4, ![1, 1, 512, 512]⟩
abbrev S16x512x512x7 : Shape := ⟨4, ![16, 512, 512, 7]⟩

abbrev nBuf : Space → Nat
  | .hbm => 8
  | .vmem => 8
  | .smem => 0
  | _ => 0

abbrev bufTy : (tb : Table) → Fin (tcTables nBuf tb) → BufTy
  | .hbm, ⟨0, _⟩ => ⟨S16x512x512x3, .f32⟩
  | .hbm, ⟨1, _⟩ => ⟨S16x512x512, .i32⟩
  | .hbm, ⟨2, _⟩ => ⟨S16x512x512, .f32⟩
  | .hbm, ⟨3, _⟩ => ⟨S16x3x512x512, .f32⟩
  | .hbm, ⟨4, _⟩ => ⟨S16x7x512x512, .f32⟩
  | .hbm, ⟨5, _⟩ => ⟨S16x3x512x512, .f32⟩
  | .hbm, ⟨6, _⟩ => ⟨S16x512x512x3, .f32⟩
  | .hbm, ⟨7, _⟩ => ⟨S16x512x512x7, .f32⟩
  | .local _ .vmem, ⟨0, _⟩ => ⟨S2x512x512, .i32⟩
  | .local _ .vmem, ⟨1, _⟩ => ⟨S2x512x512, .i32⟩
  | .local _ .vmem, ⟨2, _⟩ => ⟨S2x3x512x512, .f32⟩
  | .local _ .vmem, ⟨3, _⟩ => ⟨S2x3x512x512, .f32⟩
  | .local _ .vmem, ⟨4, _⟩ => ⟨S2x7x512x512, .f32⟩
  | .local _ .vmem, ⟨5, _⟩ => ⟨S2x7x512x512, .f32⟩
  | .local _ .vmem, ⟨6, _⟩ => ⟨S2x3x512x512, .f32⟩
  | .local _ .vmem, ⟨7, _⟩ => ⟨S2x3x512x512, .f32⟩
  | _, _ => ⟨S16x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x7x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x512x512x3 : Shape := ⟨4, ![16, 512, 512, 3]⟩
abbrev S16x512x512 : Shape := ⟨3, ![16, 512, 512]⟩
abbrev S16x512x512x1 : Shape := ⟨4, ![16, 512, 512, 1]⟩
abbrev S1x1x1x7 : Shape := ⟨4, ![1, 1, 1, 7]⟩
abbrev S16x512x512x7 : Shape := ⟨4, ![16, 512, 512, 7]⟩

abbrev nBuf : Space → Nat
  | .hbm => 9
  | .vmem => 0
  | .smem => 0
  | _ => 0

abbrev bufTy : (tb : Table) → Fin (tcTables nBuf tb) → BufTy
  | .hbm, ⟨0, _⟩ => ⟨S16x512x512x3, .f32⟩
  | .hbm, ⟨1, _⟩ => ⟨S16x512x512, .i32⟩
  | .hbm, ⟨2, _⟩ => ⟨S16x512x512, .f32⟩
  | .hbm, ⟨3, _⟩ => ⟨S16x512x512x1, .i32⟩
  | .hbm, ⟨4, _⟩ => ⟨S1x1x1x7, .i32⟩
  | .hbm, ⟨5, _⟩ => ⟨S16x512x512x7, .i32⟩
  | .hbm, ⟨6, _⟩ => ⟨S16x512x512x7, .i32⟩
  | .hbm, ⟨7, _⟩ => ⟨S16x512x512x7, .i1⟩
  | .hbm, ⟨8, _⟩ => ⟨S16x512x512x7, .f32⟩
  | _, _ => ⟨S16x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩

abbrev nD : Nat := 1
abbrev τ : Topo := Topo.v7x

variable {F : FTy → Type} [FloatOps F]
-- ==== Proof.Block.lean ====
/-
  What one grid step of the kernel leaves in its two output blocks, over the extended reals.

  The step reads a mask block x0 : i32[2, 512, 512] and an image block x1 : f32[2, 3, 512, 512].
  It stores, for each of the two images and each of the seven classes c, the plane "mask = c" as ones and zeros,
  and copies the image block.
-/
module

public import proofs.«01_k».proof.Proof.Gen.KernelIdeal.Frame
public import Idealize.ShloMosaic.Lib.Pipeline.Value
public import Idealize.ShloMosaic.Lib.ValueIdx
public import Idealize.ShloMosaic.PureOps.Ideal

@[expose] public section

set_option maxRecDepth 16384

noncomputable section

namespace Cert.KernelIdeal.OneHot

open Cert.KernelIdeal Cert.KernelIdeal.Gen Idealize.ShloMosaic Idealize.ShloMosaic.ValueIdx

/-- One entry of a one-hot encoding: one where the mask's word is the class, zero elsewhere. -/
def hot (x k : BitVec 32) : EReal := if x = k then 1 else 0

/-- The kernel's spelling of an entry (compare, widen the bit to a word, read the word as a signed integer). -/
theorem signed_bit (x k : BitVec 32) :
    Scalar.sitofp (F := Ideal) .f32 ((IntOp.cmpi .eq x k).setWidth 32) = hot x k := by
  rw [Ideal.scalar_sitofp_def]
  unfold hot
  by_cases h : x = k
  · subst h; simp [IntOp.cmpi]
  · have e : (x == k) = false := by simpa using h
    simp [IntOp.cmpi, e, h]

/-- The reference's spelling of an entry (compare, read the bit as an unsigned integer). -/
theorem unsigned_bit (x k : BitVec 32) :
    Scalar.uitofp (F := Ideal) .f32 (IntOp.cmpi .eq x k) = hot x k := by
  show (((IntOp.cmpi .eq x k).toNat : ℝ) : EReal) = _
  unfold hot
  by_cases h : x = k
  · subst h; simp [IntOp.cmpi]
  · have e : (x == k) = false := by simpa using h
    simp [IntOp.cmpi, e, h]

/-- One stored plane, from the mask of one image: the entry at row y, column z is `hot` of the mask there. -/
def plane (v : IVec S1x512x512 32) (k : BitVec 32) : FVec Ideal S1x1x512x512 .f32 :=
  fun j => hot (v (ix3 (⟨0, Nat.one_pos⟩ : Fin 1) (j 2) (j 3))) k

/-- Viewing a [512, 512] plane as [1, 1, 512, 512] keeps row and column. -/
theorem add_units {α : Type} (x : S512x512.Idx → α) (h : S512x512.ShapeCasts S1x1x512x512) (j : S1x1x512x512.Idx) :
    shapeCast S1x1x512x512 x h j = x (ix2 (j 2) (j 3)) := by
  refine shapeCast_apply x h j _ ?_
  have h0 : (j 0).val < 1 := (j 0).isLt
  have h1 : (j 1).val < 1 := (j 1).isLt
  rw [Shape.rowMajor_val_four, Shape.rowMajor_val_two]
  show (j 2).val * 512 + (j 3).val = (((j 0).val * 1 + (j 1).val) * 512 + (j 2).val) * 512 + (j 3).val
  omega

/-- Viewing a [1, 512, 512] block as [512, 512] keeps row and column. -/
theorem drop_unit {α : Type} (x : S1x512x512.Idx → α) (h : S1x512x512.ShapeCasts S512x512) (y z : Fin 512) :
    shapeCast S512x512 x h (ix2 y z) = x (ix3 (⟨0, Nat.one_pos⟩ : Fin 1) y z) := by
  refine shapeCast_apply x h _ _ ?_
  rw [Shape.rowMajor_val_three, Shape.rowMajor_val_two]
  show (0 * 512 + y.val) * 512 + z.val = y.val * 512 + z.val
  omega

/-- The value that the body stores for class word k is `plane`. -/
theorem stored_plane (v : IVec S1x512x512 32) (k : BitVec 32) (h1 : S1x512x512.ShapeCasts S512x512)
    (h2 : 1 < 32) (h3 : S512x512.ShapeCasts S1x1x512x512) :
    shapeCast S1x1x512x512 (sitofp (F := Ideal) .f32 (extui 32 (cmpi .eq (shapeCast S512x512 v h1)
      (broadcast S512x512 k)) h2)) h3 = plane v k := by
  funext j
  rw [add_units]
  show Scalar.sitofp (F := Ideal) .f32 ((IntOp.cmpi .eq (shapeCast S512x512 v h1 (ix2 (j 2) (j 3))) k).setWidth 32) = _
  exact (congrArg (fun u => Scalar.sitofp (F := Ideal) .f32 ((IntOp.cmpi .eq u k).setWidth 32))
    (drop_unit v h1 (j 2) (j 3))).trans (signed_bit _ k)

/-- The one-hot block of a mask block: entry (b, c, y, z) compares the mask at (b, y, z) with class c. -/
def hotBlock (x0 : IVec S2x512x512 32) : FVec Ideal S2x7x512x512 .f32 :=
  fun i => hot (x0 (ix3 (i 0) (i 2) (i 3))) (BitVec.ofNat 32 (i 1).val)

/-- One store of the body agrees with the one-hot block: the plane of image b and class c, at any such b and c. -/
theorem piece (x0 : Vec Ideal S2x512x512 .i32) (b c : Nat)
    (hl : ∀ a, (![b, 0, 0] : Fin 3 → Nat) a + S1x512x512.size a ≤ S2x512x512.size a)
    (hs : ∀ a, (![b, c, 0, 0] : Fin 4 → Nat) a + S1x1x512x512.size a ≤ S2x7x512x512.size a)
    (x : (Rect.unit (s := S2x7x512x512) ![b, c, 0, 0] S1x1x512x512.size hs).shape.Idx) :
    plane (View.ld (Val := Elt Ideal) (e' := .i32) x0 (Rect.unit (s := S2x512x512) ![b, 0, 0] S1x512x512.size hl)) (BitVec.ofNat 32 c) x
      = hotBlock x0 ((Rect.unit (s := S2x7x512x512) ![b, c, 0, 0] S1x1x512x512.size hs).emb x) := by
  have h0 : (x 0).val < 1 := (x 0).isLt
  have h1 : (x 1).val < 1 := (x 1).isLt
  unfold plane hotBlock
  have ec : BitVec.ofNat 32 c
      = BitVec.ofNat 32 ((Rect.unit (s := S2x7x512x512) ![b, c, 0, 0] S1x1x512x512.size hs).emb x 1).val :=
    congrArg _ (show c = c + 1 * (x 1).val by omega)
  rw [← ec]
  refine congrArg (fun u => hot u _) (congrArg x0 (funext fun a => Fin.ext ?_))
  match a with
  | ⟨0, _⟩ => show b + 1 * 0 = b + 1 * (x 0).val; omega
  | ⟨1, _⟩ => show 0 + 1 * (x 2).val = 0 + 1 * (x 2).val; rfl
  | ⟨2, _⟩ => show 0 + 1 * (x 3).val = 0 + 1 * (x 3).val; rfl

/-- The same of the value as the body spells it. -/
theorem store (x0 : Vec Ideal S2x512x512 .i32) (b c : Nat)
    (hl : ∀ a, (![b, 0, 0] : Fin 3 → Nat) a + S1x512x512.size a ≤ S2x512x512.size a)
    (hs : ∀ a, (![b, c, 0, 0] : Fin 4 → Nat) a + S1x1x512x512.size a ≤ S2x7x512x512.size a)
    (h1 : S1x512x512.ShapeCasts S512x512) (h2 : 1 < 32) (h3 : S512x512.ShapeCasts S1x1x512x512)
    (x : (Rect.unit (s := S2x7x512x512) ![b, c, 0, 0] S1x1x512x512.size hs).shape.Idx) :
    shapeCast S1x1x512x512 (sitofp (F := Ideal) .f32 (extui 32 (cmpi .eq (shapeCast S512x512
        (View.ld (Val := Elt Ideal) (e' := .i32) x0 (Rect.unit (s := S2x512x512) ![b, 0, 0] S1x512x512.size hl)) h1)
        (broadcast S512x512 (BitVec.ofNat 32 c))) h2)) h3 x
      = hotBlock x0 ((Rect.unit (s := S2x7x512x512) ![b, c, 0, 0] S1x1x512x512.size hs).emb x) :=
  (congrFun (stored_plane _ _ h1 h2 h3) x).trans (piece x0 b c hl hs x)

/-- After the body the first output's buffer holds the one-hot block of the mask block: each of the fourteen stores
    agrees with it, and together they fill the buffer. -/
theorem out_hot (x0 : Vec Ideal S2x512x512 .i32) (x1 : Vec Ideal S2x3x512x512 .f32) :
    out0_2 (F := Ideal) x0 x1 = hotBlock x0 := by
  funext y
  unfold out0_2
  refine View.canon_apply_of_pieces (Val := Elt Ideal) (e := .f32) (hotBlock x0) _ ?_ y
    (cover0_2 _ _ _ _ _ _ _ _ _ _ _ _ _ _ y)
  unfold k0_pay21 k0_pay20 k0_pay19 k0_pay18 k0_pay17 k0_pay16 k0_pay15 k0_pay14 k0_pay13 k0_pay12 k0_pay11 k0_pay10
    k0_pay9 k0_pay8 k0_pay7 k0_pay6 k0_pay5 k0_pay4 k0_pay3 k0_pay1
  intro p hp x
  simp only [List.mem_cons, List.mem_nil_iff, or_false] at hp
  rcases hp with rfl | rfl | rfl | rfl | rfl | rfl | rfl | rfl | rfl | rfl | rfl | rfl | rfl | rfl
  all_goals dsimp only at x ⊢
  · exact store x0 1 6 _ _ _ _ _ x
  · exact store x0 1 5 _ _ _ _ _ x
  · exact store x0 1 4 _ _ _ _ _ x
  · exact store x0 1 3 _ _ _ _ _ x
  · exact store x0 1 2 _ _ _ _ _ x
  · exact store x0 1 1 _ _ _ _ _ x
  · exact store x0 1 0 _ _ _ _ _ x
  · exact store x0 0 6 _ _ _ _ _ x
  · exact store x0 0 5 _ _ _ _ _ x
  · exact store x0 0 4 _ _ _ _ _ x
  · exact store x0 0 3 _ _ _ _ _ x
  · exact store x0 0 2 _ _ _ _ _ x
  · exact store x0 0 1 _ _ _ _ _ x
  · exact store x0 0 0 _ _ _ _ _ x

/-- After the body the second output's buffer holds the image block. -/
theorem out_copy (x0 : Vec Ideal S2x512x512 .i32) (x1 : Vec Ideal S2x3x512x512 .f32) :
    out0_3 (F := Ideal) x0 x1 = x1 := by
  have hz : (![0, 0, 0, 0] : Fin 4 → Nat) = fun _ => 0 := funext fun a => by fin_cases a <;> rfl
  unfold out0_3
  rw [View.canon_unit_zero hz, View.ld_unit_zero hz]
  funext j
  exact shapeCast_apply x1 _ j j rfl

end Cert.KernelIdeal.OneHot

end
-- ==== Proof.Arrays.lean ====
/- The two arrays the pipeline writes, after its last point. Grid point `t` handles images `2t` and `2t + 1`: it writes
   back the one-hot block of its two masks (`Block.lean`) and its two images as they came. The eight blocks tile each
   array, so the arrays end as one function of the whole mask array and as the whole image array. -/
module

public import proofs.«01_k».proof.Proof.Block

@[expose] public section

set_option maxRecDepth 16384

noncomputable section

namespace Cert.KernelIdeal.OneHot

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The one-hot planes of a whole mask array: at image `i 0`, class `i 1`, pixel `(i 2, i 3)`. -/
def planes (v : IVec S16x512x512 32) : FVec Ideal S16x7x512x512 .f32 :=
  fun i => hot (v (ix3 (i 0) (i 2) (i 3))) (BitVec.ofNat 32 (i 1).val)

/-- Every window's block index at point `t` is `t` along the images and zero along every other axis. -/
theorem index0 : ∀ t : Fin grid0.N, win0_0.index t 0 = t.val ∧ win0_0.index t 1 = 0 ∧ win0_0.index t 2 = 0 := by
  decide +kernel
theorem index1 : ∀ t : Fin grid0.N, win0_1.index t 0 = t.val ∧ win0_1.index t 1 = 0 ∧ win0_1.index t 2 = 0
    ∧ win0_1.index t 3 = 0 := by decide +kernel
theorem index2 : ∀ t : Fin grid0.N, win0_2.index t 0 = t.val ∧ win0_2.index t 1 = 0 ∧ win0_2.index t 2 = 0
    ∧ win0_2.index t 3 = 0 := by decide +kernel
theorem index3 : ∀ t : Fin grid0.N, win0_3.index t 0 = t.val ∧ win0_3.index t 1 = 0 ∧ win0_3.index t 2 = 0
    ∧ win0_3.index t 3 = 0 := by decide +kernel

/-- What point `t` writes back to the one-hot array is its block of the planes of the whole mask array. -/
theorem flushed_hot (c : Dev nD) (t : Fin cfg0.N) :
    (dats m 0 c).flushed 2 t
      = (win0_2.blk t).view.read (Elt Ideal) (planes (m ((c : Thread nD τ).loc main_arg1))) := by
  show (cfg0.win 2).cut (grid0.coords t) ((dats m 0 c).after 2 t) = _
  rw [after0_2, out_hot]
  obtain ⟨a0, a1, a2⟩ := index0 t
  obtain ⟨b0, b1, b2, b3⟩ := index2 t
  funext j
  show hot (V m c main_arg1 ((win0_0.rect t).emb (ix3 (j 0) (j 2) (j 3)))) (BitVec.ofNat 32 (j 1).val)
    = planes (m ((c : Thread nD τ).loc main_arg1)) ((win0_2.rect t).emb j)
  rw [V_main_arg1]
  unfold planes
  have e1 : (((win0_2.rect t).emb j) 1).val = (j 1).val := by
    show win0_2.index t 1 * 7 + 1 * (j 1).val = _
    rw [b1]; omega
  have e : (win0_0.rect t).emb (ix3 (j 0) (j 2) (j 3))
      = ix3 (((win0_2.rect t).emb j) 0) (((win0_2.rect t).emb j) 2) (((win0_2.rect t).emb j) 3) := by
    funext a
    apply Fin.ext
    match a with
    | ⟨0, _⟩ => show win0_0.index t 0 * 2 + 1 * (j 0).val = win0_2.index t 0 * 2 + 1 * (j 0).val
                rw [a0, b0]
    | ⟨1, _⟩ => show win0_0.index t 1 * 512 + 1 * (j 2).val = win0_2.index t 2 * 512 + 1 * (j 2).val
                rw [a1, b2]
    | ⟨2, _⟩ => show win0_0.index t 2 * 512 + 1 * (j 3).val = win0_2.index t 3 * 512 + 1 * (j 3).val
                rw [a2, b3]
  rw [e1]
  exact congrArg (fun k => hot (m ((c : Thread nD τ).loc main_arg1) k) (BitVec.ofNat 32 (j 1).val)) e

/-- An index of the one-hot array is in point `t`'s block exactly when its image is `2t` or `2t + 1`. -/
theorem mem_hot (t : Fin cfg0.N) (i : S16x7x512x512.Idx) :
    i ∈ ((cfg0.win 2).blk t).view.set ↔ t.val * 2 ≤ (i 0 : Nat) ∧ (i 0 : Nat) < t.val * 2 + 2 := by
  show i ∈ ((View.whole main_v1_0).slice (win0_2.rect t)).set ↔ _
  rw [View.set_slice_whole, Rect.mem_set_unit]
  have h1 : (i 1 : Nat) < 7 := (i 1).isLt
  have h2 : (i 2 : Nat) < 512 := (i 2).isLt
  have h3 : (i 3 : Nat) < 512 := (i 3).isLt
  obtain ⟨b0, b1, b2, b3⟩ := index2 t
  refine ⟨fun h => ?_, fun h a => ?_⟩
  · have : win0_2.index t 0 * 2 ≤ (i 0 : Nat) ∧ (i 0 : Nat) < win0_2.index t 0 * 2 + 2 := h 0
    rw [b0] at this; exact this
  · match a with
    | ⟨0, _⟩ => show win0_2.index t 0 * 2 ≤ (i 0 : Nat) ∧ (i 0 : Nat) < win0_2.index t 0 * 2 + 2
                rw [b0]; exact h
    | ⟨1, _⟩ => show win0_2.index t 1 * 7 ≤ (i 1 : Nat) ∧ (i 1 : Nat) < win0_2.index t 1 * 7 + 7
                rw [b1]; omega
    | ⟨2, _⟩ => show win0_2.index t 2 * 512 ≤ (i 2 : Nat) ∧ (i 2 : Nat) < win0_2.index t 2 * 512 + 512
                rw [b2]; omega
    | ⟨3, _⟩ => show win0_2.index t 3 * 512 ≤ (i 3 : Nat) ∧ (i 3 : Nat) < win0_2.index t 3 * 512 + 512
                rw [b3]; omega

/-- The one-hot blocks tile their array: image `n` lies in the block of point `n / 2`. -/
theorem cover_hot (i : S16x7x512x512.Idx) :
    ∃ t : Fin cfg0.N, (cfg0.win 2).flush t = true ∧ i ∈ ((cfg0.win 2).blk t).view.set := by
  have h0 : (i 0 : Nat) < 16 := (i 0).isLt
  have hN : cfg0.N = 8 := N_0
  refine ⟨⟨(i 0 : Nat) / 2, by omega⟩, flush0_2 _, ?_⟩
  rw [mem_hot]
  dsimp only
  omega

/-- The one-hot array ends as the planes of the whole mask array. -/
theorem final_hot (c : Dev nD) :
    (dats m 0 c).arrAt 2 cfg0.N = planes (m ((c : Thread nD τ).loc main_arg1)) :=
  (dats m 0 c).arrAt_eq_of_cover 2 (planes (m ((c : Thread nD τ).loc main_arg1)))
    (fun t _ => flushed_hot m c t) cover_hot

/-- What point `t` writes back to the image array is its block of the image array the region was given: the two
    windows read and write at the same place. -/
theorem flushed_copy (c : Dev nD) (t : Fin cfg0.N) :
    (dats m 0 c).flushed 3 t = (win0_3.blk t).view.read (Elt Ideal) (V m c main_v0) := by
  show (cfg0.win 3).cut (grid0.coords t) ((dats m 0 c).after 3 t) = _
  rw [after0_3, out_copy]
  obtain ⟨a0, a1, a2, a3⟩ := index1 t
  obtain ⟨b0, b1, b2, b3⟩ := index3 t
  funext j
  show V m c main_v0 ((win0_1.rect t).emb j) = V m c main_v0 ((win0_3.rect t).emb j)
  refine congrArg (V m c main_v0) (funext fun a => Fin.ext ?_)
  match a with
  | ⟨0, _⟩ => show win0_1.index t 0 * 2 + 1 * (j 0).val = win0_3.index t 0 * 2 + 1 * (j 0).val
              rw [a0, b0]
  | ⟨1, _⟩ => show win0_1.index t 1 * 3 + 1 * (j 1).val = win0_3.index t 1 * 3 + 1 * (j 1).val
              rw [a1, b1]
  | ⟨2, _⟩ => show win0_1.index t 2 * 512 + 1 * (j 2).val = win0_3.index t 2 * 512 + 1 * (j 2).val
              rw [a2, b2]
  | ⟨3, _⟩ => show win0_1.index t 3 * 512 + 1 * (j 3).val = win0_3.index t 3 * 512 + 1 * (j 3).val
              rw [a3, b3]

/-- An index of the image array is in point `t`'s block exactly when its image is `2t` or `2t + 1`. -/
theorem mem_copy (t : Fin cfg0.N) (i : S16x3x512x512.Idx) :
    i ∈ ((cfg0.win 3).blk t).view.set ↔ t.val * 2 ≤ (i 0 : Nat) ∧ (i 0 : Nat) < t.val * 2 + 2 := by
  show i ∈ ((View.whole main_v1_1).slice (win0_3.rect t)).set ↔ _
  rw [View.set_slice_whole, Rect.mem_set_unit]
  have h1 : (i 1 : Nat) < 3 := (i 1).isLt
  have h2 : (i 2 : Nat) < 512 := (i 2).isLt
  have h3 : (i 3 : Nat) < 512 := (i 3).isLt
  obtain ⟨b0, b1, b2, b3⟩ := index3 t
  refine ⟨fun h => ?_, fun h a => ?_⟩
  · have : win0_3.index t 0 * 2 ≤ (i 0 : Nat) ∧ (i 0 : Nat) < win0_3.index t 0 * 2 + 2 := h 0
    rw [b0] at this; exact this
  · match a with
    | ⟨0, _⟩ => show win0_3.index t 0 * 2 ≤ (i 0 : Nat) ∧ (i 0 : Nat) < win0_3.index t 0 * 2 + 2
                rw [b0]; exact h
    | ⟨1, _⟩ => show win0_3.index t 1 * 3 ≤ (i 1 : Nat) ∧ (i 1 : Nat) < win0_3.index t 1 * 3 + 3
                rw [b1]; omega
    | ⟨2, _⟩ => show win0_3.index t 2 * 512 ≤ (i 2 : Nat) ∧ (i 2 : Nat) < win0_3.index t 2 * 512 + 512
                rw [b2]; omega
    | ⟨3, _⟩ => show win0_3.index t 3 * 512 ≤ (i 3 : Nat) ∧ (i 3 : Nat) < win0_3.index t 3 * 512 + 512
                rw [b3]; omega

/-- The image blocks tile their array. -/
theorem cover_copy (i : S16x3x512x512.Idx) :
    ∃ t : Fin cfg0.N, (cfg0.win 3).flush t = true ∧ i ∈ ((cfg0.win 3).blk t).view.set := by
  have h0 : (i 0 : Nat) < 16 := (i 0).isLt
  have hN : cfg0.N = 8 := N_0
  refine ⟨⟨(i 0 : Nat) / 2, by omega⟩, flush0_3 _, ?_⟩
  rw [mem_copy]
  dsimp only
  omega

/-- The image array the pipeline writes ends as the one it was given. -/
theorem final_copy (c : Dev nD) : (dats m 0 c).arrAt 3 cfg0.N = V m c main_v0 :=
  (dats m 0 c).arrAt_eq_of_cover 3 (V m c main_v0) (fun t _ => flushed_copy m c t) cover_copy

end Cert.KernelIdeal.OneHot

end
-- ==== Proof.Result.lean ====
/- The kernel's run, read at its three results. After the pipeline two transposes on the host move the channel and the
   class axis last: the second result is the one-hot array pixel by pixel, and the first the image array, whose channel
   axis another transpose moved first before the pipeline. The third result is an argument nothing writes. -/
module

public import proofs.«01_k».proof.Proof.Arrays
public import Idealize.ShloMosaic.Lib.StableHlo.Run

@[expose] public section

set_option maxRecDepth 16384

noncomputable section

namespace Cert.KernelIdeal.OneHot

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The one-hot array with the class axis last: at image `i 0`, pixel `(i 1, i 2)`, class `i 3`. -/
def encoding (v : IVec S16x512x512 32) : FVec Ideal S16x512x512x7 .f32 :=
  fun i => hot (v (ix3 (i 0) (i 1) (i 2))) (BitVec.ofNat 32 (i 3).val)

/-- Moving the class axis of the planes last gives the encoding. -/
theorem planes_last (v : IVec S16x512x512 32) (h : S16x7x512x512.Transposes [0, 2, 3, 1] S16x512x512x7) :
    transpose S16x512x512x7 [0, 2, 3, 1] (planes v) h = encoding v := by
  funext i
  refine (transpose_apply _ (planes v) h i (ix4 (i 0) (i 3) (i 1) (i 2)) ?_).trans rfl
  intro b
  match b with
  | ⟨0, _⟩ => rfl
  | ⟨1, _⟩ => rfl
  | ⟨2, _⟩ => rfl
  | ⟨3, _⟩ => rfl

/-- Moving the channel axis first and then last again changes nothing. -/
theorem channels_back (x : FVec Ideal S16x512x512x3 .f32) (h : S16x512x512x3.Transposes [0, 3, 1, 2] S16x3x512x512)
    (h' : S16x3x512x512.Transposes [0, 2, 3, 1] S16x512x512x3) :
    transpose S16x512x512x3 [0, 2, 3, 1] (transpose S16x3x512x512 [0, 3, 1, 2] x h) h' = x := by
  funext i
  refine (transpose_apply _ _ h' i (ix4 (i 0) (i 3) (i 1) (i 2)) ?_).trans
    (transpose_apply _ x h _ i ?_)
  · intro b
    match b with
    | ⟨0, _⟩ => rfl
    | ⟨1, _⟩ => rfl
    | ⟨2, _⟩ => rfl
    | ⟨3, _⟩ => rfl
  · intro b
    match b with
    | ⟨0, _⟩ => rfl
    | ⟨1, _⟩ => rfl
    | ⟨2, _⟩ => rfl
    | ⟨3, _⟩ => rfl

/-- The region is given the images with the channel axis first. -/
theorem entry_images (c : Dev nD) :
    V m c main_v0 = transpose S16x3x512x512 [0, 3, 1, 2] (m ((c : Thread nD τ).loc main_arg0))
      transposes_S16x512x512x3_S16x3x512x512_0_3_1_2 := by
  show StableHlo.after hostOps0 (fun b => m (c, b)) (Proc.devRef .tc main_v0) = _
  after_results

/-- The windows' arrays are four different buffers. -/
theorem arr_inj : Function.Injective (Pipeline.arrRef spec0) := launch0.win.arr_inj

/-- The first result after the lines that follow the region: the images. -/
theorem tail_images (c : Dev nD) :
    Pipeline.afterTail₀ cfgs (dats m) 0 (V0 m) [hostOps1] c main_v2 = m ((c : Thread nD τ).loc main_arg0) := by
  have e := (Pipeline.withArrays_arr spec0 arr_inj c (V0 m c) (fun w => (dats m 0 c).arrAt w cfg0.N) 3).trans
    ((final_copy m c).trans (entry_images m c))
  show StableHlo.after hostOps1 (Pipeline.withArrays spec0 c (V0 m c) fun w => (dats m 0 c).arrAt w cfg0.N)
    (Proc.devRef .tc main_v2) = _
  refine Eq.trans (b := transpose S16x512x512x3 [0, 2, 3, 1]
    (Pipeline.withArrays spec0 c (V0 m c) (fun w => (dats m 0 c).arrAt w cfg0.N) (Proc.devRef .tc main_v1_1))
    transposes_S16x3x512x512_S16x512x512x3_0_2_3_1) (by after_results) ?_
  refine (congrArg (fun u => transpose S16x512x512x3 [0, 2, 3, 1] u transposes_S16x3x512x512_S16x512x512x3_0_2_3_1) e).trans ?_
  exact channels_back _ _ _

/-- The second result: the encoding of the masks. -/
theorem tail_hot (c : Dev nD) :
    Pipeline.afterTail₀ cfgs (dats m) 0 (V0 m) [hostOps1] c main_v3
      = encoding (m ((c : Thread nD τ).loc main_arg1)) := by
  have e := (Pipeline.withArrays_arr spec0 arr_inj c (V0 m c) (fun w => (dats m 0 c).arrAt w cfg0.N) 2).trans
    (final_hot m c)
  show StableHlo.after hostOps1 (Pipeline.withArrays spec0 c (V0 m c) fun w => (dats m 0 c).arrAt w cfg0.N)
    (Proc.devRef .tc main_v3) = _
  refine Eq.trans (b := transpose S16x512x512x7 [0, 2, 3, 1]
    (Pipeline.withArrays spec0 c (V0 m c) (fun w => (dats m 0 c).arrAt w cfg0.N) (Proc.devRef .tc main_v1_0))
    transposes_S16x7x512x512_S16x512x512x7_0_2_3_1) (by after_results) ?_
  refine (congrArg (fun u => transpose S16x512x512x7 [0, 2, 3, 1] u transposes_S16x7x512x512_S16x512x512x7_0_2_3_1) e).trans ?_
  exact planes_last _ _

/-- The run, read: the images, the encoding of the masks and the weights, and the arguments as they were. -/
theorem run : θ_run defs (onTc (τ := τ) (main (F := Ideal))) ⟨m, fun _ => 0, ρ⟩ fun r => ∀ c : Dev nD,
      r.2.mem ((c.tc : Thread nD τ).loc main_v2) = m ((c.tc : Thread nD τ).loc main_arg0)
      ∧ r.2.mem ((c.tc : Thread nD τ).loc main_v3) = encoding (m ((c.tc : Thread nD τ).loc main_arg1))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have h2 := ((h c).2 main_arg2 (Pipeline.mem_restRefs_of main_arg2 (by decide) (by decide))).trans
      (W_main_arg2 m (dats m) c)
    ⟨((h c).2 main_v2 (Pipeline.mem_restRefs_of main_v2 (by decide) (by decide))).trans (tail_images m c),
     ((h c).2 main_v3 (Pipeline.mem_restRefs_of main_v3 (by decide) (by decide))).trans (tail_hot m c),
     h2,
     ((h c).2 main_arg0 (Pipeline.mem_restRefs_of main_arg0 (by decide) (by decide))).trans (W_main_arg0 m (dats m) c),
     ((h c).1 0).trans (((dats m 0 c).arrAt_in 0 rfl _).trans (V_main_arg1 m c)),
     h2⟩) (run_main m ρ)

end Cert.KernelIdeal.OneHot

end
-- ==== Proof.Reference.lean ====
/- The reference's one-hot array. It compares the masks, repeated along a class axis put last, with the class numbers
   `0 … 6` repeated over every pixel, and converts the truth values to numbers. -/
module

public import proofs.«01_k».proof.Proof.Result
public import proofs.«01_k».proof.Proof.Gen.ReferenceIdeal.Run

@[expose] public section

noncomputable section

namespace Cert.ReferenceIdeal.OneHot

open Cert.ReferenceIdeal Cert.ReferenceIdeal.Gen Idealize.ShloMosaic Idealize.ShloMosaic.ValueIdx
open Cert.KernelIdeal.OneHot (hot unsigned_bit encoding)

/-- The reference's second result is the encoding of the masks. -/
theorem encoded (v : IVec S16x512x512 32) (h1 : S16x512x512.BroadcastsInDim S16x512x512x1 ![0, 1, 2])
    (h2 : S16x512x512x1.BroadcastsInDim S16x512x512x7 ![0, 1, 2, 3])
    (h3 : S1x1x1x7.BroadcastsInDim S16x512x512x7 ![0, 1, 2, 3]) :
    uitofp (F := Ideal) .f32 (cmpi .eq
        (broadcastInDim S16x512x512x7 ![0, 1, 2, 3] h2 (broadcastInDim S16x512x512x1 ![0, 1, 2] h1 v))
        (broadcastInDim S16x512x512x7 ![0, 1, 2, 3] h3 (iotaInDim S1x1x1x7 32 3)))
      = encoding v := by
  funext i
  have ev : broadcastInDim S16x512x512x7 ![0, 1, 2, 3] h2 (broadcastInDim S16x512x512x1 ![0, 1, 2] h1 v) i
      = v (ix3 (i 0) (i 1) (i 2)) := by
    refine (broadcastInDim_apply _ h2 _ i (ix4 (i 0) (i 1) (i 2) ⟨0, Nat.one_pos⟩) ?_).trans
      (broadcastInDim_apply _ h1 v _ (ix3 (i 0) (i 1) (i 2)) ?_)
    · intro a
      match a with
      | ⟨0, _⟩ => rfl
      | ⟨1, _⟩ => rfl
      | ⟨2, _⟩ => rfl
      | ⟨3, _⟩ => rfl
    · intro a
      match a with
      | ⟨0, _⟩ => rfl
      | ⟨1, _⟩ => rfl
      | ⟨2, _⟩ => rfl
  have ek : broadcastInDim S16x512x512x7 ![0, 1, 2, 3] h3 (iotaInDim S1x1x1x7 32 3) i
      = BitVec.ofNat 32 (i 3).val := by
    refine (broadcastInDim_apply _ h3 _ i
      (ix4 ⟨0, Nat.one_pos⟩ ⟨0, Nat.one_pos⟩ ⟨0, Nat.one_pos⟩ (i 3)) ?_).trans rfl
    intro a
    match a with
    | ⟨0, _⟩ => rfl
    | ⟨1, _⟩ => rfl
    | ⟨2, _⟩ => rfl
    | ⟨3, _⟩ => rfl
  show Scalar.uitofp (F := Ideal) .f32 (IntOp.cmpi .eq
    (broadcastInDim S16x512x512x7 ![0, 1, 2, 3] h2 (broadcastInDim S16x512x512x1 ![0, 1, 2] h1 v) i)
    (broadcastInDim S16x512x512x7 ![0, 1, 2, 3] h3 (iotaInDim S1x1x1x7 32 3) i)) = _
  rw [ev, ek]
  exact unsigned_bit _ _

end Cert.ReferenceIdeal.OneHot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.OneHot (encoding)

/-- The kernel terminates, leaves its arguments alone and every counter at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- The reference leaves its arguments alone, and it declares no semaphore. -/
theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- Both runs end with the images, the encoding of the masks and the weights. -/
theorem algebraic : Cert.algebraic_KernelIdeal_ReferenceIdeal := by
  intro m ρ m' ρ' _ hag
  refine ⟨fun c => m ((c.tc : Thread Cert.KernelIdeal.nD Cert.KernelIdeal.τ).loc Cert.KernelIdeal.main_arg0),
    fun c => encoding (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg2),
    Cert.KernelIdeal.OneHot.run m ρ, ?_⟩
  refine (θ_run Cert.ReferenceIdeal.defs _ _).mono (fun r h c => ?_)
    (Cert.ReferenceIdeal.Value.run (F := Ideal) m' ρ')
  obtain ⟨a0, a1, a2⟩ := hag c
  exact ⟨(h c).1.trans a0, ((h c).2.1.trans (Cert.ReferenceIdeal.OneHot.encoded _ _ _ _)).trans (congrArg encoding a1),
    (h c).2.2.1.trans a2, (h c).2.2.2⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
